-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes [hPre_boxes : Cert.Pre_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes [hPre_boxes : Cert.Pre_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes [hKernelIdeal : Cert.KernelIdeal.Facts] [hPre_boxes : Cert.Pre_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes [hReferenceIdeal : Cert.ReferenceIdeal.Facts] [hPre_boxes : Cert.Pre_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_boxes [hKernelIdeal : Cert.KernelIdeal.Facts] [hReferenceIdeal : Cert.ReferenceIdeal.Facts] [hPre_boxes : Cert.Pre_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes : Cert.Pre_boxes.Facts),
    quiescent_Kernel (hKernel := hKernel)
    ∧ quiescent_KernelIdeal (hKernelIdeal := hKernelIdeal)
    ∧ quiescent_KernelIdeal_pre_boxes (hKernelIdeal := hKernelIdeal) (hPre_boxes := hPre_boxes)
    ∧ quiescent_ReferenceIdeal (hReferenceIdeal := hReferenceIdeal)
    ∧ quiescent_ReferenceIdeal_pre_boxes (hReferenceIdeal := hReferenceIdeal) (hPre_boxes := hPre_boxes)
    ∧ preserves_Kernel_KernelIdeal
    ∧ algebraic_KernelIdeal_ReferenceIdeal_pre_boxes (hKernelIdeal := hKernelIdeal) (hReferenceIdeal := hReferenceIdeal) (hPre_boxes := hPre_boxes)
-- ==== Pre_boxes.lean ====
abbrev S32x3x299x299 : Shape := ⟨4, ![32, 3, 299, 299]⟩
abbrev S32x16x4 : Shape := ⟨3, ![32, 16, 4]⟩
abbrev S32x16x1 : Shape := ⟨3, ![32, 16, 1]⟩
abbrev S32x16 : Shape := ⟨2, ![32, 16]⟩
abbrev S_ : Shape := ⟨0, ![]⟩

class Facts : Prop where
  slices_S32x16x4_S32x16x1_0_0_0 : S32x16x4.Slices ![0, 0, 0] S32x16x1
  shapeCasts_S32x16x1_S32x16 : S32x16x1.ShapeCasts S32x16
  slices_S32x16x4_S32x16x1_0_0_1 : S32x16x4.Slices ![0, 0, 1] S32x16x1
  slices_S32x16x4_S32x16x1_0_0_2 : S32x16x4.Slices ![0, 0, 2] S32x16x1
  slices_S32x16x4_S32x16x1_0_0_3 : S32x16x4.Slices ![0, 0, 3] S32x16x1
  bcast_S_S32x16 : S_.BroadcastsInDim S32x16 (![] : Fin 0 → Fin S32x16.rank)

variable [Facts]

def fn_part1 {F : FTy → Type} [FloatOps F] (main_v7 : IVec S32x16 32) (main_v15 : IVec S32x16 1) (main_v17 : IVec S32x16 1) (main_v18 : IVec S32x16 32) : IVec S32x16 1 :=
  let main_v19 : IVec S32x16 1 := cmpi .sge main_v7 main_v18
  let main_v20 : IVec S32x16 1 := andi main_v17 main_v19
  let main_c_4 : IVec S_ 32 := constantI S_ 32 299#32
  let main_v21 : IVec S32x16 32 := broadcastInDim S32x16 ![] bcast_S_S32x16 main_c_4
  let main_v22 : IVec S32x16 1 := cmpi .sle main_v7 main_v21
  let main_v23 : IVec S32x16 1 := andi main_v20 main_v22
  let main_v24 : IVec S32x16 1 := andi main_v15 main_v23
  main_v24

def fn {F : FTy → Type} [FloatOps F] (main_arg0 : FVec F S32x3x299x299 .f32) (main_arg1 : IVec S32x16x4 32) : IVec S32x16 1 :=
  let main_v0 : IVec S32x16x1 32 := (extractStridedSlice S32x16x1 ![0, 0, 0] · slices_S32x16x4_S32x16x1_0_0_0) main_arg1
  let main_v1 : IVec S32x16 32 := shapeCast S32x16 main_v0 shapeCasts_S32x16x1_S32x16
  let main_v2 : IVec S32x16x1 32 := (extractStridedSlice S32x16x1 ![0, 0, 1] · slices_S32x16x4_S32x16x1_0_0_1) main_arg1
  let main_v3 : IVec S32x16 32 := shapeCast S32x16 main_v2 shapeCasts_S32x16x1_S32x16
  let main_v4 : IVec S32x16x1 32 := (extractStridedSlice S32x16x1 ![0, 0, 2] · slices_S32x16x4_S32x16x1_0_0_2) main_arg1
  let main_v5 : IVec S32x16 32 := shapeCast S32x16 main_v4 shapeCasts_S32x16x1_S32x16
  let main_v6 : IVec S32x16x1 32 := (extractStridedSlice S32x16x1 ![0, 0, 3] · slices_S32x16x4_S32x16x1_0_0_3) main_arg1
  let main_v7 : IVec S32x16 32 := shapeCast S32x16 main_v6 shapeCasts_S32x16x1_S32x16
  let main_c : IVec S_ 32 := constantI S_ 32 0#32
  let main_v8 : IVec S32x16 32 := broadcastInDim S32x16 ![] bcast_S_S32x16 main_c
  let main_v9 : IVec S32x16 1 := cmpi .sge main_v1 main_v8
  let main_c_0 : IVec S_ 32 := constantI S_ 32 1#32
  let main_v10 : IVec S32x16 32 := broadcastInDim S32x16 ![] bcast_S_S32x16 main_c_0
  let main_v11 : IVec S32x16 1 := cmpi .sge main_v5 main_v10
  let main_v12 : IVec S32x16 1 := andi main_v9 main_v11
  let main_c_1 : IVec S_ 32 := constantI S_ 32 299#32
  let main_v13 : IVec S32x16 32 := broadcastInDim S32x16 ![] bcast_S_S32x16 main_c_1
  let main_v14 : IVec S32x16 1 := cmpi .sle main_v5 main_v13
  let main_v15 : IVec S32x16 1 := andi main_v12 main_v14
  let main_c_2 : IVec S_ 32 := constantI S_ 32 0#32
  let main_v16 : IVec S32x16 32 := broadcastInDim S32x16 ![] bcast_S_S32x16 main_c_2
  let main_v17 : IVec S32x16 1 := cmpi .sge main_v3 main_v16
  let main_c_3 : IVec S_ 32 := constantI S_ 32 1#32
  let main_v18 : IVec S32x16 32 := broadcastInDim S32x16 ![] bcast_S_S32x16 main_c_3
  fn_part1 (F := F) main_v7 main_v15 main_v17 main_v18
-- ==== Kernel.lean ====
abbrev S32x3x299x299 : Shape := ⟨4, ![32, 3, 299, 299]⟩
abbrev S32x16x4 : Shape := ⟨3, ![32, 16, 4]⟩
abbrev S32x3x299x16x299 : Shape := ⟨5, ![32, 3, 299, 16, 299]⟩
abbrev S1x3x299x299 : Shape := ⟨4, ![1, 3, 299, 299]⟩
abbrev S1x3x299x8x299 : Shape := ⟨5, ![1, 3, 299, 8, 299]⟩
abbrev S299x299 : Shape := ⟨2, ![299, 299]⟩
abbrev S1x1x1 : Shape := ⟨3, ![1, 1, 1]⟩
abbrev S1x1x299x299 : Shape := ⟨4, ![1, 1, 299, 299]⟩
abbrev S1x1x299x1x299 : Shape := ⟨5, ![1, 1, 299, 1, 299]⟩
abbrev S32x16x3x299x299 : Shape := ⟨5, ![32, 16, 3, 299, 299]⟩

abbrev nBuf : Space → Nat
  | .hbm => 3
  | .vmem => 4
  | .smem => 1
  | _ => 0

abbrev bufTy : (tb : Table) → Fin (tcTables nBuf tb) → BufTy
  | .hbm, ⟨0, _⟩ => ⟨S32x3x299x299, .f32⟩
  | .hbm, ⟨1, _⟩ => ⟨S32x3x299x16x299, .f32⟩
  | .hbm, ⟨2, _⟩ => ⟨S32x16x3x299x299, .f32⟩
  | .local _ .vmem, ⟨0, _⟩ => ⟨S1x3x299x299, .f32⟩
  | .local _ .vmem, ⟨1, _⟩ => ⟨S1x3x299x299, .f32⟩
  | .local _ .vmem, ⟨2, _⟩ => ⟨S1x3x299x8x299, .f32⟩
  | .local _ .vmem, ⟨3, _⟩ => ⟨S1x3x299x8x299, .f32⟩
  | .local _ .smem, ⟨0, _⟩ => ⟨S32x16x4, .i32⟩
  | _, _ => ⟨S32x3x299x299, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 3 → Nat :=
  let arg0 : BitVec 32 := BitVec.ofNat 32 (i 0).val
  let v6 : Index := Scalar.indexCast arg0
  let arg1 : BitVec 32 := BitVec.ofNat 32 (i 1).val
  let c8_i32 : BitVec 32 := 8#32
  let v4 : BitVec 32 := Scalar.muli arg1 c8_i32
  let v5 : BitVec 32 := Scalar.addi v4 c0_i32
  let v7 : Index := Scalar.indexCast v5
  let c0 : Index := 0#32
  ![v6.toNat, v7.toNat, 0]
def k0_off2 (i : grid0.Coords) (c0_i32 : BitVec 32) : Fin 3 → Nat :=
  let arg0 : BitVec 32 := BitVec.ofNat 32 (i 0).val
  let v9 : Index := Scalar.indexCast arg0
  let arg1 : BitVec 32 := BitVec.ofNat 32 (i 1).val
  let c8_i32 : BitVec 32 := 8#32
  let v4 : BitVec 32 := Scalar.muli arg1 c8_i32
  let v5 : BitVec 32 := Scalar.addi v4 c0_i32
  let v10 : Index := Scalar.indexCast v5
  let c1 : Index := 1#32
  ![v9.toNat, v10.toNat, 1]
def k0_off3 (i : grid0.Coords) (c0_i32 : BitVec 32) : Fin 3 → Nat :=
  let arg0 : BitVec 32 := BitVec.ofNat 32 (i 0).val
  let v12 : Index := Scalar.indexCast arg0
  let arg1 : BitVec 32 := BitVec.ofNat 32 (i 1).val
  let c8_i32 : BitVec 32 := 8#32
  let v4 : BitVec 32 := Scalar.muli arg1 c8_i32
  let v5 : BitVec 32 := Scalar.addi v4 c0_i32
  let v13 : Index := Scalar.indexCast v5
  let c2 : Index := 2#32
  ![v12.toNat, v13.toNat, 2]
def k0_off4 (i : grid0.Coords) (c0_i32 : BitVec 32) : Fin 3 → Nat :=
  let arg0 : BitVec 32 := BitVec.ofNat 32 (i 0).val
  let v15 : Index := Scalar.indexCast arg0
  let arg1 : BitVec 32 := BitVec.ofNat 32 (i 1).val
  let c8_i32 : BitVec 32 := 8#32
  let v4 : BitVec 32 := Scalar.muli arg1 c8_i32
  let v5 : BitVec 32 := Scalar.addi v4 c0_i32
  let v16 : Index := Scalar.indexCast v5
  let c3 : Index := 3#32
  ![v15.toNat, v16.toNat, 3]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x3x299x299 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x299x8x299 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S32x3x299x299 : Shape := ⟨4, ![32, 3, 299, 299]⟩
abbrev S32x16x4 : Shape := ⟨3, ![32, 16, 4]⟩
abbrev S32x16x1 : Shape := ⟨3, ![32, 16, 1]⟩
abbrev S32x16 : Shape := ⟨2, ![32, 16]⟩
abbrev S299 : Shape := ⟨1, ![299]⟩
abbrev S_ : Shape := ⟨0, ![]⟩
abbrev S1x299 : Shape := ⟨2, ![1, 299]⟩
abbrev S1x1x299 : Shape := ⟨3, ![1, 1, 299]⟩
abbrev S32x16x299 : Shape := ⟨3, ![32, 16, 299]⟩
abbrev S32x16x299x1 : Shape := ⟨4, ![32, 16, 299, 1]⟩
abbrev S32x16x1x299 : Shape := ⟨4, ![32, 16, 1, 299]⟩
abbrev S32x16x299x299 : Shape := ⟨4, ![32, 16, 299, 299]⟩
abbrev S32x16x299x299x1 : Shape := ⟨5, ![32, 16, 299, 299, 1]⟩
abbrev S32x16x299x299x2 : Shape := ⟨5, ![32, 16, 299, 299, 2]⟩
abbrev S32x16x3x299x299 : Shape := ⟨5, ![32, 16, 3, 299, 299]⟩
abbrev S32x16x1x1x299 : Shape := ⟨5, ![32, 16, 1, 1, 299]⟩
abbrev S32x16x1x299x1 : Shape := ⟨5, ![32, 16, 1, 299, 1]⟩

abbrev nBuf : Space → Nat
  | .hbm => 215
  | .vmem => 0
  | .smem => 0
  | _ => 0

abbrev hbmTy0_0 (i : Nat) : BufTy := match i % 128 with
  | 0 => ⟨S32x3x299x299, .f32⟩
  | 1 => ⟨S32x16x4, .i32⟩
  | 2 => ⟨S32x16x1, .i32⟩
  | 3 => ⟨S32x16, .i32⟩
  | 4 => ⟨S32x16x1, .i32⟩
  | 5 => ⟨S32x16, .i32⟩
  | 6 => ⟨S32x16x1, .i32⟩
  | 7 => ⟨S32x16, .i32⟩
  | 8 => ⟨S32x16x1, .i32⟩
  | 9 => ⟨S32x16, .i32⟩
  | 10 => ⟨S32x16, .i32⟩
  | 11 => ⟨S32x16, .f32⟩
  | 12 => ⟨S32x16, .i32⟩
  | 13 => ⟨S32x16, .f32⟩
  | 14 => ⟨S299, .f32⟩
  | 15 => ⟨S_, .f32⟩
  | 16 => ⟨S299, .f32⟩
  | 17 => ⟨S299, .f32⟩
  | 18 => ⟨S1x299, .f32⟩
  | 19 => ⟨S32x16x1, .f32⟩
  | 20 => ⟨S1x1x299, .f32⟩
  | 21 => ⟨S32x16x299, .f32⟩
  | 22 => ⟨S32x16x299, .f32⟩
  | 23 => ⟨S32x16x299, .f32⟩
  | 24 => ⟨S_, .f32⟩
  | 25 => ⟨S32x16x299, .f32⟩
  | 26 => ⟨S32x16x299, .f32⟩
  | 27 => ⟨S_, .f32⟩
  | 28 => ⟨S32x16x299, .f32⟩
  | 29 => ⟨S32x16x299, .f32⟩
  | 30 => ⟨S_, .f32⟩
  | 31 => ⟨S32x16, .f32⟩
  | 32 => ⟨S32x16, .f32⟩
  | 33 => ⟨S_, .f32⟩
  | 34 => ⟨S_, .f32⟩
  | 35 => ⟨S32x16x299, .f32⟩
  | 36 => ⟨S32x16x299, .f32⟩
  | 37 => ⟨S32x16x1, .f32⟩
  | 38 => ⟨S32x16x299, .f32⟩
  | 39 => ⟨S32x16x299, .f32⟩
  | 40 => ⟨S32x16, .f32⟩
  | 41 => ⟨S32x16x1, .f32⟩
  | 42 => ⟨S32x16x299, .f32⟩
  | 43 => ⟨S32x16x299, .f32⟩
  | 44 => ⟨S_, .f32⟩
  | 45 => ⟨S299, .f32⟩
  | 46 => ⟨S299, .f32⟩
  | 47 => ⟨S1x299, .f32⟩
  | 48 => ⟨S32x16x1, .f32⟩
  | 49 => ⟨S1x1x299, .f32⟩
  | 50 => ⟨S32x16x299, .f32⟩
  | 51 => ⟨S32x16x299, .f32⟩
  | 52 => ⟨S32x16x299, .f32⟩
  | 53 => ⟨S_, .f32⟩
  | 54 => ⟨S32x16x299, .f32⟩
  | 55 => ⟨S32x16x299, .f32⟩
  | 56 => ⟨S_, .f32⟩
  | 57 => ⟨S32x16x299, .f32⟩
  | 58 => ⟨S32x16x299, .f32⟩
  | 59 => ⟨S_, .f32⟩
  | 60 => ⟨S32x16, .f32⟩
  | 61 => ⟨S32x16, .f32⟩
  | 62 => ⟨S_, .f32⟩
  | 63 => ⟨S_, .f32⟩
  | 64 => ⟨S32x16x299, .f32⟩
  | 65 => ⟨S32x16x299, .f32⟩
  | 66 => ⟨S32x16x1, .f32⟩
  | 67 => ⟨S32x16x299, .f32⟩
  | 68 => ⟨S32x16x299, .f32⟩
  | 69 => ⟨S32x16, .f32⟩
  | 70 => ⟨S32x16x1, .f32⟩
  | 71 => ⟨S32x16x299, .f32⟩
  | 72 => ⟨S32x16x299, .f32⟩
  | 73 => ⟨S32x16x299, .f32⟩
  | 74 => ⟨S32x16x299, .f32⟩
  | 75 => ⟨S32x16x299, .f32⟩
  | 76 => ⟨S32x16x299, .f32⟩
  | 77 => ⟨S32x16x299, .i32⟩
  | 78 => ⟨S32x16x299, .i32⟩
  | 79 => ⟨S_, .i32⟩
  | 80 => ⟨S32x16x299, .i32⟩
  | 81 => ⟨S32x16x299, .i32⟩
  | 82 => ⟨S_, .i32⟩
  | 83 => ⟨S32x16, .i32⟩
  | 84 => ⟨S32x16, .i32⟩
  | 85 => ⟨S32x16x1, .i32⟩
  | 86 => ⟨S32x16x299, .i32⟩
  | 87 => ⟨S32x16x299, .i32⟩
  | 88 => ⟨S_, .i32⟩
  | 89 => ⟨S32x16x299, .i32⟩
  | 90 => ⟨S32x16x299, .i32⟩
  | 91 => ⟨S_, .i32⟩
  | 92 => ⟨S32x16, .i32⟩
  | 93 => ⟨S32x16, .i32⟩
  | 94 => ⟨S32x16x1, .i32⟩
  | 95 => ⟨S32x16x299, .i32⟩
  | 96 => ⟨S32x16x299, .i32⟩
  | 97 => ⟨S32x16x299x1, .i32⟩
  | 98 => ⟨S32x16x1x299, .i32⟩
  | 99 => ⟨S_, .i32⟩
  | 100 => ⟨S32x16x299x1, .i32⟩
  | 101 => ⟨S32x16x299x1, .i1⟩
  | 102 => ⟨S_, .i32⟩
  | 103 => ⟨S32x16x299x1, .i32⟩
  | 104 => ⟨S32x16x299x1, .i32⟩
  | 105 => ⟨S32x16x299x1, .i32⟩
  | 106 => ⟨S_, .i32⟩
  | 107 => ⟨S32x16x1x299, .i32⟩
  | 108 => ⟨S32x16x1x299, .i1⟩
  | 109 => ⟨S_, .i32⟩
  | 110 => ⟨S32x16x1x299, .i32⟩
  | 111 => ⟨S32x16x1x299, .i32⟩
  | 112 => ⟨S32x16x1x299, .i32⟩
  | 113 => ⟨S32x16x299x299, .i32⟩
  | 114 => ⟨S32x16x299x299, .i32⟩
  | 115 => ⟨S32x16x299x299x1, .i32⟩
  | 116 => ⟨S32x16x299x299x1, .i32⟩
  | 117 => ⟨S32x16x299x299x2, .i32⟩
  | 118 => ⟨S32x16x3x299x299, .f32⟩
  | 119 => ⟨S_, .f32⟩
  | 120 => ⟨S32x16x299, .f32⟩
  | 121 => ⟨S32x16x299, .f32⟩
  | 122 => ⟨S32x16x1x1x299, .f32⟩
  | 123 => ⟨S32x16x3x299x299, .f32⟩
  | 124 => ⟨S32x16x3x299x299, .f32⟩
  | 125 => ⟨S32x16x299x1, .i32⟩
  | 126 => ⟨S32x16x1x299, .i32⟩
  | 127 => ⟨S_, .i32⟩
  | _ => ⟨S32x3x299x299, .f32⟩

abbrev hbmTy0_1 (i : Nat) : BufTy := match i % 128 with
  | 0 => ⟨S32x16x299x1, .i32⟩
  | 1 => ⟨S32x16x299x1, .i1⟩
  | 2 => ⟨S_, .i32⟩
  | 3 => ⟨S32x16x299x1, .i32⟩
  | 4 => ⟨S32x16x299x1, .i32⟩
  | 5 => ⟨S32x16x299x1, .i32⟩
  | 6 => ⟨S_, .i32⟩
  | 7 => ⟨S32x16x1x299, .i32⟩
  | 8 => ⟨S32x16x1x299, .i1⟩
  | 9 => ⟨S_, .i32⟩
  | 10 => ⟨S32x16x1x299, .i32⟩
  | 11 => ⟨S32x16x1x299, .i32⟩
  | 12 => ⟨S32x16x1x299, .i32⟩
  | 13 => ⟨S32x16x299x299, .i32⟩
  | 14 => ⟨S32x16x299x299, .i32⟩
  | 15 => ⟨S32x16x299x299x1, .i32⟩
  | 16 => ⟨S32x16x299x299x1, .i32⟩
  | 17 => ⟨S32x16x299x299x2, .i32⟩
  | 18 => ⟨S32x16x3x299x299, .f32⟩
  | 19 => ⟨S32x16x1x1x299, .f32⟩
  | 20 => ⟨S32x16x3x299x299, .f32⟩
  | 21 => ⟨S32x16x3x299x299, .f32⟩
  | 22 => ⟨S32x16x3x299x299, .f32⟩
  | 23 => ⟨S32x16x299x1, .i32⟩
  | 24 => ⟨S32x16x1x299, .i32⟩
  | 25 => ⟨S_, .i32⟩
  | 26 => ⟨S32x16x299x1, .i32⟩
  | 27 => ⟨S32x16x299x1, .i1⟩
  | 28 => ⟨S_, .i32⟩
  | 29 => ⟨S32x16x299x1, .i32⟩
  | 30 => ⟨S32x16x299x1, .i32⟩
  | 31 => ⟨S32x16x299x1, .i32⟩
  | 32 => ⟨S_, .i32⟩
  | 33 => ⟨S32x16x1x299, .i32⟩
  | 34 => ⟨S32x16x1x299, .i1⟩
  | 35 => ⟨S_, .i32⟩
  | 36 => ⟨S32x16x1x299, .i32⟩
  | 37 => ⟨S32x16x1x299, .i32⟩
  | 38 => ⟨S32x16x1x299, .i32⟩
  | 39 => ⟨S32x16x299x299, .i32⟩
  | 40 => ⟨S32x16x299x299, .i32⟩
  | 41 => ⟨S32x16x299x299x1, .i32⟩
  | 42 => ⟨S32x16x299x299x1, .i32⟩
  | 43 => ⟨S32x16x299x299x2, .i32⟩
  | 44 => ⟨S32x16x3x299x299, .f32⟩
  | 45 => ⟨S_, .f32⟩
  | 46 => ⟨S32x16x299, .f32⟩
  | 47 => ⟨S32x16x299, .f32⟩
  | 48 => ⟨S32x16x1x1x299, .f32⟩
  | 49 => ⟨S32x16x3x299x299, .f32⟩
  | 50 => ⟨S32x16x3x299x299, .f32⟩
  | 51 => ⟨S32x16x299x1, .i32⟩
  | 52 => ⟨S32x16x1x299, .i32⟩
  | 53 => ⟨S_, .i32⟩
  | 54 => ⟨S32x16x299x1, .i32⟩
  | 55 => ⟨S32x16x299x1, .i1⟩
  | 56 => ⟨S_, .i32⟩
  | 57 => ⟨S32x16x299x1, .i32⟩
  | 58 => ⟨S32x16x299x1, .i32⟩
  | 59 => ⟨S32x16x299x1, .i32⟩
  | 60 => ⟨S_, .i32⟩
  | 61 => ⟨S32x16x1x299, .i32⟩
  | 62 => ⟨S32x16x1x299, .i1⟩
  | 63 => ⟨S_, .i32⟩
  | 64 => ⟨S32x16x1x299, .i32⟩
  | 65 => ⟨S32x16x1x299, .i32⟩
  | 66 => ⟨S32x16x1x299, .i32⟩
  | 67 => ⟨S32x16x299x299, .i32⟩
  | 68 => ⟨S32x16x299x299, .i32⟩
  | 69 => ⟨S32x16x299x299x1, .i32⟩
  | 70 => ⟨S32x16x299x299x1, .i32⟩
  | 71 => ⟨S32x16x299x299x2, .i32⟩
  | 72 => ⟨S32x16x3x299x299, .f32⟩
  | 73 => ⟨S32x16x1x1x299, .f32⟩
  | 74 => ⟨S32x16x3x299x299, .f32⟩
  | 75 => ⟨S32x16x3x299x299, .f32⟩
  | 76 => ⟨S32x16x3x299x299, .f32⟩
  | 77 => ⟨S_, .f32⟩
  | 78 => ⟨S32x16x299, .f32⟩
  | 79 => ⟨S32x16x299, .f32⟩
  | 80 => ⟨S32x16x1x299x1, .f32⟩
  | 81 => ⟨S32x16x3x299x299, .f32⟩
  | 82 => ⟨S32x16x3x299x299, .f32⟩
  | 83 => ⟨S32x16x1x299x1, .f32⟩
  | 84 => ⟨S32x16x3x299x299, .f32⟩
  | 85 => ⟨S32x16x3x299x299, .f32⟩
  | 86 => ⟨S32x16x3x299x299, .f32⟩
  | _ => ⟨S32x3x299x299, .f32⟩

abbrev hbmTy (i : Nat) : BufTy := match i / 128 with
  | 0 => hbmTy0_0 i
  | 1 => hbmTy0_1 i
  | _ => ⟨S32x3x299x299, .f32⟩

abbrev bufTy : (tb : Table) → Fin (tcTables nBuf tb) → BufTy
  | .hbm, ⟨i, _⟩ => hbmTy i
  | _, _ => ⟨S32x3x299x299, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c : Ref sig .tc := ⟨.hbm, 79, rfl⟩
abbrev main_v57 : Ref sig .tc := ⟨.hbm, 80, rfl⟩
abbrev main_v58 : Ref sig .tc := ⟨.hbm, 81, rfl⟩
abbrev main_c_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_12 : Ref sig .tc := ⟨.hbm, 99, rfl⟩
abbrev main_v73 : Ref sig .tc := ⟨.hbm, 100, rfl⟩
abbrev main_v74 : Ref sig .tc := ⟨.hbm, 101, rfl⟩
abbrev main_c_13 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_14 : Ref sig .tc := ⟨.hbm, 106, rfl⟩
abbrev main_v78 : Ref sig .tc := ⟨.hbm, 107, rfl⟩
abbrev main_v79 : Ref sig .tc := ⟨.hbm, 108, rfl⟩
abbrev main_c_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_16 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_17 : Ref sig .tc := ⟨.hbm, 127, rfl⟩
abbrev main_v96 : Ref sig .tc := ⟨.hbm, 128, rfl⟩
abbrev main_v97 : Ref sig .tc := ⟨.hbm, 129, rfl⟩
abbrev main_c_18 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_19 : Ref sig .tc := ⟨.hbm, 134, rfl⟩
abbrev main_v101 : Ref sig .tc := ⟨.hbm, 135, rfl⟩
abbrev main_v102 : Ref sig .tc := ⟨.hbm, 136, rfl⟩
abbrev main_c_20 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_c_21 : Ref sig .tc := ⟨.hbm, 153, rfl⟩
abbrev main_v118 : Ref sig .tc := ⟨.hbm, 154, rfl⟩
abbrev main_v119 : Ref sig .tc := ⟨.hbm, 155, rfl⟩
abbrev main_c_22 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_23 : Ref sig .tc := ⟨.hbm, 160, rfl⟩
abbrev main_v123 : Ref sig .tc := ⟨.hbm, 161, rfl⟩
abbrev main_v124 : Ref sig .tc := ⟨.hbm, 162, rfl⟩
abbrev main_c_24 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_25 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_c_26 : Ref sig .tc := ⟨.hbm, 181, rfl⟩
abbrev main_v141 : Ref sig .tc := ⟨.hbm, 182, rfl⟩
abbrev main_v142 : Ref sig .tc := ⟨.hbm, 183, rfl⟩
abbrev main_c_27 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_c_28 : Ref sig .tc := ⟨.hbm, 188, rfl⟩
abbrev main_v146 : Ref sig .tc := ⟨.hbm, 189, rfl⟩
abbrev main_v147 : Ref sig .tc := ⟨.hbm, 190, rfl⟩
abbrev main_c_29 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_30 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩

abbrev nD : Nat := 1
abbrev τ : Topo := Topo.v7x

variable {F : FTy → Type} [FloatOps F]
-- ==== Proof.Axis.lean ====
/-
  One axis of the resampling, as plain mathematics.

  A box is cut out of an axis of 299 cells by two words: `a`, its first cell, and `b`, one past its last. The output's
  299 cells are spread evenly over the box. Output cell `i` reads the box at the real position `pos i a b`: linear
  interpolation takes the two cells beside that position and weights them by their distance to it.

  The kernel gets the same two cells by a sum over ALL cells, each weighted by a hat of width one around the position
  (`hat`). `hat_sum` says that this sum is the two-cell interpolation.
-/
module

public import Idealize.ShloMosaic.PureOps.Ideal

@[expose] public section

noncomputable section

namespace Cert.Axis

open Idealize.ShloMosaic

/-- The words of a box that lies inside an axis of 299 cells, as far as the resampling needs it: the first cell is not
    negative and the last one is a cell of the axis. (The corners may come in either order.) -/
def Inside (a b : BitVec 32) : Prop := 0 ≤ a.toInt ∧ 1 ≤ b.toInt ∧ b.toInt ≤ 299

/-- The position output cell `i` reads at, in cells of the whole axis: the centre of cell `i` scaled to the box, held
    between the centres of the box's first and last cell, moved to where the box begins. -/
def pos (i : ℕ) (a b : BitVec 32) : ℝ :=
  min (((b.toInt : ℝ) - a.toInt) - 1) (max 0 (((i : ℝ) + 1 / 2) * (((b.toInt : ℝ) - a.toInt) / 299) - 1 / 2)) + a.toInt

/-- The cell of an axis of 299 cells nearest an integer. -/
def cell (n : ℤ) : Fin 299 := ⟨min n.toNat 298, by omega⟩

/-- The cell at or before the position. -/
def near (i : ℕ) (a b : BitVec 32) : ℤ := ⌊pos i a b⌋

/-- The cell after the position, held inside the box. -/
def next (i : ℕ) (a b : BitVec 32) : ℤ := min (near i a b + 1) (b.toInt - 1)

/-- How far past `near` the position lies. -/
def part (i : ℕ) (a b : BitVec 32) : ℝ := pos i a b - ⌊pos i a b⌋

/-- The weight of cell `k` in output cell `i`: one minus its distance to the position, and nothing beyond distance one. -/
def hat (i k : ℕ) (a b : BitVec 32) : ℝ := max 0 (1 - |(k : ℝ) - pos i a b|)

/-- The interpolation between the two cells beside the position of output cell `i`. -/
def lerp (i : ℕ) (a b : BitVec 32) (v : Fin 299 → EReal) : EReal :=
  v (cell (near i a b)) * ((1 - part i a b : ℝ) : EReal) + v (cell (next i a b)) * ((part i a b : ℝ) : EReal)

/-- The interpolation of a plane along both axes at output cell `(i, j)`, the box's rows `a0 … b0`, its columns `a1 … b1`. -/
def resample (a0 b0 a1 b1 : BitVec 32) (X : Fin 299 → Fin 299 → EReal) (i j : Fin 299) : EReal :=
  lerp i.val a0 b0 fun k => lerp j.val a1 b1 fun l => X k l

/-- A position lies inside the axis and at or before the box's last cell. -/
theorem pos_bounds {a b : BitVec 32} (h : Inside a b) (i : ℕ) : 0 ≤ pos i a b ∧ pos i a b ≤ b.toInt - 1 := by
  obtain ⟨h0, h1, h2⟩ := h
  have h0' : (0 : ℝ) ≤ a.toInt := by exact_mod_cast h0
  have h1' : (1 : ℝ) ≤ b.toInt := by exact_mod_cast h1
  unfold pos
  have hq : (0 : ℝ) ≤ max 0 (((i : ℝ) + 1 / 2) * (((b.toInt : ℝ) - a.toInt) / 299) - 1 / 2) := le_max_left _ _
  generalize max (0 : ℝ) (((i : ℝ) + 1 / 2) * (((b.toInt : ℝ) - a.toInt) / 299) - 1 / 2) = q at *
  refine ⟨?_, by linarith [min_le_left (((b.toInt : ℝ) - a.toInt) - 1) q]⟩
  rcases min_choice (((b.toInt : ℝ) - a.toInt) - 1) q with e | e <;> rw [e] <;> linarith

/-- The cell at or before the position is a cell of the axis, no later than the box's last. -/
theorem near_bounds {a b : BitVec 32} (h : Inside a b) (i : ℕ) : 0 ≤ near i a b ∧ near i a b ≤ b.toInt - 1 := by
  obtain ⟨h0, h1⟩ := pos_bounds h i
  refine ⟨Int.floor_nonneg.mpr h0, ?_⟩
  have : ((near i a b : ℤ) : ℝ) ≤ ((b.toInt - 1 : ℤ) : ℝ) := by
    push_cast
    exact (Int.floor_le _).trans h1
  exact_mod_cast this

/-- The cell after the position is a cell of the axis. -/
theorem next_bounds {a b : BitVec 32} (h : Inside a b) (i : ℕ) : 0 ≤ next i a b ∧ next i a b ≤ 298 := by
  obtain ⟨h0, h1⟩ := near_bounds h i
  obtain ⟨g0, g1, g2⟩ := h
  unfold next
  omega

/-- The cell nearest an integer that is a cell is that integer. -/
theorem cell_val {n : ℤ} (h0 : 0 ≤ n) (h1 : n ≤ 298) : ((cell n).val : ℤ) = n := by
  unfold cell
  simp only
  omega

/-- The position is `near` and a part of a cell, at least nothing and less than one. -/
theorem part_bounds (i : ℕ) (a b : BitVec 32) :
    pos i a b = near i a b + part i a b ∧ 0 ≤ part i a b ∧ part i a b < 1 := by
  unfold part near
  exact ⟨by ring, sub_nonneg.mpr (Int.floor_le _), by linarith [Int.lt_floor_add_one (pos i a b)]⟩

/-- The hat's weight at `near`. -/
theorem hat_near {i k : ℕ} {a b : BitVec 32} (hk : (k : ℤ) = near i a b) : hat i k a b = 1 - part i a b := by
  obtain ⟨e, h0, h1⟩ := part_bounds i a b
  have hk' : (k : ℝ) = near i a b := by exact_mod_cast hk
  rw [hat, e, hk', show (near i a b : ℝ) - (near i a b + part i a b) = -part i a b by ring, abs_neg, abs_of_nonneg h0]
  exact max_eq_right (by linarith)

/-- The hat's weight one past `near`. -/
theorem hat_succ {i k : ℕ} {a b : BitVec 32} (hk : (k : ℤ) = near i a b + 1) : hat i k a b = part i a b := by
  obtain ⟨e, h0, h1⟩ := part_bounds i a b
  have hk' : (k : ℝ) = near i a b + 1 := by exact_mod_cast hk
  rw [hat, e, hk', show (near i a b : ℝ) + 1 - (near i a b + part i a b) = 1 - part i a b by ring,
    abs_of_nonneg (by linarith)]
  rw [show 1 - (1 - part i a b) = part i a b by ring]
  exact max_eq_right h0

/-- The hat weighs no other cell. -/
theorem hat_far {i k : ℕ} {a b : BitVec 32} (h1 : (k : ℤ) ≠ near i a b) (h2 : (k : ℤ) ≠ near i a b + 1) :
    hat i k a b = 0 := by
  obtain ⟨e, p0, p1⟩ := part_bounds i a b
  rw [hat, e]
  refine max_eq_left (sub_nonpos.mpr ?_)
  rcases lt_or_ge (k : ℤ) (near i a b) with h | h
  · have : ((k : ℤ) : ℝ) + 1 ≤ near i a b := by exact_mod_cast h
    push_cast at this
    exact le_trans (by linarith) (neg_le_abs _)
  · have : ((near i a b : ℤ) : ℝ) + 2 ≤ ((k : ℤ) : ℝ) := by exact_mod_cast (by omega : near i a b + 2 ≤ (k : ℤ))
    push_cast at this
    exact le_trans (by linarith) (le_abs_self _)

/-- THE SUM OVER ALL CELLS IS THE INTERPOLATION: weighting every cell of the axis by the hat leaves the two cells beside
    the position. When the position is the box's last cell both are that cell, and the second weighs nothing. -/
theorem hat_sum {a b : BitVec 32} (h : Inside a b) (i : ℕ) (v : Fin 299 → EReal) :
    ∑ k : Fin 299, v k * ((hat i k.val a b : ℝ) : EReal) = lerp i a b v := by
  obtain ⟨n0, n1⟩ := near_bounds h i
  obtain ⟨e, p0, p1⟩ := part_bounds i a b
  have hb := h.2.2
  have hn : ((cell (near i a b)).val : ℤ) = near i a b := cell_val n0 (by omega)
  by_cases hl : near i a b + 1 ≤ b.toInt - 1
  · have hx : next i a b = near i a b + 1 := min_eq_left hl
    have hs : ((cell (next i a b)).val : ℤ) = near i a b + 1 := by rw [hx]; exact cell_val (by omega) (by omega)
    have hne : cell (near i a b) ≠ cell (next i a b) := by
      intro hc
      rw [← hc, hn] at hs
      omega
    rw [Fintype.sum_eq_add _ _ hne, hat_near hn, hat_succ hs, lerp]
    rintro k ⟨k1, k2⟩
    rw [hat_far, EReal.coe_zero, mul_zero]
    · exact fun hk => k1 (Fin.ext (by omega))
    · exact fun hk => k2 (Fin.ext (by omega))
  · have hp : part i a b = 0 := by
      have hr : (near i a b : ℝ) = b.toInt - 1 := by exact_mod_cast (by omega : near i a b = b.toInt - 1)
      have := (pos_bounds h i).2
      linarith
    rw [Fintype.sum_eq_single (cell (near i a b)), hat_near hn, lerp, hp, EReal.coe_zero, mul_zero, add_zero]
    intro k hk
    rcases eq_or_ne (k.val : ℤ) (near i a b + 1) with k1 | k1
    · rw [hat_succ k1, hp, EReal.coe_zero, mul_zero]
    · rw [hat_far (fun hk' => hk (Fin.ext (by omega))) k1, EReal.coe_zero, mul_zero]

/-! ## The same numbers as the two programs compute them -/

/-- The extent of a box whose words are inside the axis is the words' difference: the subtraction does not wrap. -/
theorem extent {a b : BitVec 32} (h : Inside a b) : (b - a).toInt = b.toInt - a.toInt := by
  obtain ⟨h0, h1, h2⟩ := h
  have := a.toInt_lt
  rw [BitVec.toInt_sub]
  exact Int.bmod_eq_of_le (by omega) (by omega)

/-- The inclusion of the reals keeps the larger of two. -/
theorem coe_max (x y : ℝ) : ((max x y : ℝ) : EReal) = max (x : EReal) y := EReal.coe_strictMono.monotone.map_max

/-- The inclusion of the reals keeps the smaller of two. -/
theorem coe_min (x y : ℝ) : ((min x y : ℝ) : EReal) = min (x : EReal) y := EReal.coe_strictMono.monotone.map_min

/-- The pattern of one half. -/
theorem half_bits : Ideal.ofBits .f32 0x3F000000#32 = ((1 / 2 : ℝ) : EReal) := by
  simp [Ideal.ofBits, Ideal.ieee, -EReal.coe_mul]
  norm_num

/-- The pattern of 299. -/
theorem size_bits : Ideal.ofBits .f32 0x43958000#32 = ((299 : ℝ) : EReal) := by
  simp [Ideal.ofBits, Ideal.ieee, -EReal.coe_mul]
  norm_num

/-- The number of a cell, made a word and then a float, is that number. -/
theorem cell_float (k : Fin 299) :
    (FloatOps.sitofp .f32 (BitVec.ofNat 32 k.val) : Ideal .f32) = (((k.val : ℝ) : ℝ) : EReal) := by
  have hk := k.isLt
  have : (BitVec.ofNat 32 k.val).toInt = (k.val : ℤ) := by
    rw [BitVec.toInt_eq_toNat_bmod, BitVec.toNat_ofNat, Nat.mod_eq_of_lt (by omega)]
    exact Int.bmod_eq_of_le (by omega) (by omega)
  show (((BitVec.ofNat 32 k.val).toInt : ℝ) : EReal) = _
  rw [this]
  push_cast
  rfl

/-- The position as the kernel computes it: the cell's centre times the quotient of the box's extent by 299. -/
theorem pos_kernel {a b : BitVec 32} (h : Inside a b) (i : Fin 299) :
    min ((((b - a).toInt : ℝ) : EReal) - 1) (max 0
        (((FloatOps.sitofp .f32 (BitVec.ofNat 32 i.val) : Ideal .f32) + Ideal.ofBits .f32 0x3F000000#32)
            * Ideal.div (((b - a).toInt : ℝ) : EReal) (Ideal.ofBits .f32 0x43958000#32)
          - Ideal.ofBits .f32 0x3F000000#32)) + ((a.toInt : ℝ) : EReal)
      = ((pos i a b : ℝ) : EReal) := by
  rw [extent h, half_bits, size_bits, Ideal.div_coe (by norm_num), cell_float, pos]
  simp only [coe_max, coe_min, EReal.coe_sub, EReal.coe_add, EReal.coe_mul, EReal.coe_zero, EReal.coe_one,
    div_eq_mul_one_div (_ - _ : ℝ) 299, Int.cast_sub]

/-- The position as the reference computes it: the cell's centre times the box's extent, the product divided by 299. -/
theorem pos_reference {a b : BitVec 32} (h : Inside a b) (i : Fin 299) :
    min ((((b - a).toInt : ℝ) : EReal) - 1) (max 0
        (Ideal.div (((FloatOps.sitofp .f32 (BitVec.ofNat 32 i.val) : Ideal .f32) + Ideal.ofBits .f32 0x3F000000#32)
            * (((b - a).toInt : ℝ) : EReal)) (Ideal.ofBits .f32 0x43958000#32)
          - Ideal.ofBits .f32 0x3F000000#32)) + ((a.toInt : ℝ) : EReal)
      = ((pos i a b : ℝ) : EReal) := by
  rw [← pos_kernel h i, size_bits, Ideal.div_coe (by norm_num), Ideal.div_coe (by norm_num), mul_assoc]

/-- The hat as the kernel computes it. -/
theorem hat_kernel {a b : BitVec 32} (h : Inside a b) (i k : Fin 299) :
    max 0 (1 - (FloatOps.absf ((FloatOps.sitofp .f32 (BitVec.ofNat 32 k.val) : Ideal .f32) -
        (min ((((b - a).toInt : ℝ) : EReal) - 1) (max 0
          (((FloatOps.sitofp .f32 (BitVec.ofNat 32 i.val) : Ideal .f32) + Ideal.ofBits .f32 0x3F000000#32)
              * Ideal.div (((b - a).toInt : ℝ) : EReal) (Ideal.ofBits .f32 0x43958000#32)
            - Ideal.ofBits .f32 0x3F000000#32)) + ((a.toInt : ℝ) : EReal))) : Ideal .f32))
      = ((hat i k a b : ℝ) : EReal) := by
  rw [pos_kernel h, cell_float, hat, coe_max, EReal.coe_sub, abs_eq_max_neg, coe_max, EReal.coe_neg, EReal.coe_sub]
  rfl

/-- The reference's whole part of the position, as the word it indexes with. -/
theorem near_word {a b : BitVec 32} (h : Inside a b) (i : ℕ) :
    (Ideal.fptosi 32 (Ideal.liftRound Int.floor ((pos i a b : ℝ) : EReal))).toInt = near i a b := by
  obtain ⟨n0, n1⟩ := near_bounds h i
  have hb := h.2.2
  have hr : (0 : ℝ) ≤ ((near i a b : ℤ) : ℝ) := by exact_mod_cast n0
  rw [Ideal.liftRound_coe, Ideal.fptosi, Ideal.toIntClamped_coe]
  change (BitVec.ofInt 32 (max _ (min _ (if (0 : ℝ) ≤ ((near i a b : ℤ) : ℝ) then ⌊((near i a b : ℤ) : ℝ)⌋ else _)))).toInt = _
  rw [if_pos hr, Int.floor_intCast, BitVec.toInt_ofInt, min_eq_right (by norm_num; omega),
    max_eq_right (by norm_num; omega)]
  exact Int.bmod_eq_of_le (by omega) (by omega)

end Cert.Axis

end
-- ==== Proof.Block.lean ====
/-
  What one grid point of the kernel leaves in its output block.

  The body stores one 299×299 tile per box of its half image and per channel: eight boxes, three channels, twenty-four
  stores. All of them are one function of the box's four words and the channel's plane (`tile`); the block as a whole is
  that function at each box and channel (`block_apply`). A tile is two matrix products with the hat weights of the two
  axes, which by `Cert.Axis.hat_sum` is the interpolation along both (`tile_apply`).
-/
module

public import proofs.«01_k».proof.Proof.Axis
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Axis

/-- The tile the body stores for a box with rows `a0 … b0` and columns `a1 … b1`, from the plane `X`. -/
def tile (a0 b0 a1 b1 : BitVec 32) (X : FVec Ideal S1x1x299x299 .f32) : FVec Ideal S1x1x299x1x299 .f32 :=
  k0_pay12 (k0_pay6 a0 b0) (k0_pay8 k0_pay3 k0_pay4 a1 (k0_pay5 a1 b1) k0_pay7) X

/-- The row weights are hats. -/
theorem rows_apply {a b : BitVec 32} (h : Inside a b) (i k : Fin 299) :
    k0_pay6 (F := Ideal) a b (ix2 i k) = ((hat i.val k.val a b : ℝ) : EReal) := by
  pointwise [k0_pay6, k0_pay3, k0_pay4]
  exact hat_kernel h i k

/-- The column weights are hats. -/
theorem cols_apply {a b : BitVec 32} (h : Inside a b) (k j : Fin 299) :
    k0_pay8 (F := Ideal) k0_pay3 k0_pay4 a (k0_pay5 a b) k0_pay7 (ix2 k j) = ((hat j.val k.val a b : ℝ) : EReal) := by
  pointwise [k0_pay8, k0_pay3, k0_pay4, k0_pay5, k0_pay7]
  exact hat_kernel h j k

/-- A tile is the interpolation along both axes. -/
theorem tile_apply {a0 b0 a1 b1 : BitVec 32} (h0 : Inside a0 b0) (h1 : Inside a1 b1)
    (X : FVec Ideal S1x1x299x299 .f32) (i j : Fin 299) :
    tile a0 b0 a1 b1 X (ix5 0 0 i 0 j) = resample a0 b0 a1 b1 (fun k l => X (ix4 0 0 k l)) i j := by
  unfold tile
  generalize hr : k0_pay6 (F := Ideal) a0 b0 = r
  generalize hc : k0_pay8 (F := Ideal) k0_pay3 k0_pay4 a1 (k0_pay5 a1 b1) k0_pay7 = c
  pointwise [k0_pay12]
  rw [resample, ← hat_sum h0]
  refine Finset.sum_congr rfl fun k _ => ?_
  rw [mul_comm, ← hat_sum h1, ← hr, rows_apply h0, ← hc]
  refine congrArg (· * _) (Finset.sum_congr rfl fun l _ => ?_)
  rw [cols_apply h1]

/-- The corner word `q` of box `g` among the eight of grid point `i`, in the table `xt` of all boxes. -/
def word (xt : IVec S32x16x4 32) (i : grid0.Coords) (g : Fin 8) (q : Fin 4) : BitVec 32 :=
  xt (ix3 (i 0) (⟨8 * (i 1).val + g.val, by have : (i 1).val < 2 := (i 1).isLt; omega⟩ : Fin 16) q)

/-- A one-word load from the table, at the place `![image, box, q]`, is that box's corner word `q`. -/
theorem load_word (c : Dev nD) (xt : TbBuf0 (F := Ideal) c tbM0_0) (off : Fin 3 → ℕ)
    (inb : ∀ a, off a + S1x1x1.size a ≤ S32x16x4.size a) (hf : 0 < S1x1x1.numel) (i : grid0.Coords) (g : Fin 8) (q : Fin 4)
    (ho : off = ![(i 0).val, 8 * (i 1).val + g.val, q.val]) :
    View.ld (Val := Elt Ideal) (e' := .i32) (View.read (Elt Ideal) (View.whole main_arg1) xt)
      (Rect.unit (s := S32x16x4) off S1x1x1.size inb) (Shape.Idx.first (s := S1x1x1) hf) = word xt i g q := by
  subst ho
  refine congrArg xt (funext fun a => Fin.ext ?_)
  fin_cases a <;> rfl

/-- A stored tile is the tile of the box and channel it is stored at, whatever names its words and plane came under. -/
theorem store_apply (xt : IVec S32x16x4 32) (i : grid0.Coords) (x0 : Vec Ideal S1x3x299x299 .f32) (y : S1x3x299x8x299.Idx)
    (x : S1x1x299x1x299.Idx) (h2 : (y 2).val = (x 2).val) (h4 : (y 4).val = (x 4).val)
    (a0 b0 a1 b1 : BitVec 32) (P : FVec Ideal S1x1x299x299 .f32)
    (ha0 : a0 = word xt i (y 3) 0) (hb0 : b0 = word xt i (y 3) 2) (ha1 : a1 = word xt i (y 3) 1)
    (hb1 : b1 = word xt i (y 3) 3) (hP : ∀ j, P j = x0 (ix4 0 (y 1) (j 2) (j 3))) :
    tile a0 b0 a1 b1 P x = tile (word xt i (y 3) 0) (word xt i (y 3) 2) (word xt i (y 3) 1) (word xt i (y 3) 3)
      (fun j => x0 (ix4 0 (y 1) (j 2) (j 3))) (ix5 0 0 (y 2) 0 (y 4)) := by
  subst ha0 hb0 ha1 hb1
  rw [funext hP]
  refine congrArg _ (funext fun a => Fin.ext ?_)
  have x0 : (x 0).val < 1 := (x 0).isLt
  have x1 : (x 1).val < 1 := (x 1).isLt
  have x3 : (x 3).val < 1 := (x 3).isLt
  match a with
  | ⟨0, _⟩ => show (x 0).val = 0; omega
  | ⟨1, _⟩ => show (x 1).val = 0; omega
  | ⟨2, _⟩ => exact h2.symm
  | ⟨3, _⟩ => show (x 3).val = 0; omega
  | ⟨4, _⟩ => exact h4.symm

/-- The block a grid point leaves: at box `y 3` and channel `y 1`, the tile of that box's words and that channel's plane. -/
theorem block_apply (c : Dev nD) (i : grid0.Coords) (arg3 : Memref sig .tc .vmem S1x3x299x299 .f32) (harg3 : arg3.IsWhole)
    (arg4 : Memref sig .tc .vmem S1x3x299x8x299 .f32) (harg4 : arg4.IsWhole)
    (x0 : Vec Ideal S1x3x299x299 .f32) (xt0 : TbBuf0 (F := Ideal) c tbM0_0) (y : S1x3x299x8x299.Idx) :
    out0_A_1 c i arg3 harg3 arg4 harg4 x0 xt0 y
      = tile (word xt0 i (y 3) 0) (word xt0 i (y 3) 2) (word xt0 i (y 3) 1) (word xt0 i (y 3) 3)
          (fun j => x0 (ix4 0 (y 1) (j 2) (j 3))) (ix5 0 0 (y 2) 0 (y 4)) := by
  frame_out
  canon_tiles x h
  all_goals
    refine store_apply xt0 i x0 y x h2 h4 _ _ _ _ _ (load_word c xt0 _ _ _ i (y 3) 0 ?_) (load_word c xt0 _ _ _ i (y 3) 2 ?_)
      (load_word c xt0 _ _ _ i (y 3) 1 ?_) (load_word c xt0 _ _ _ i (y 3) 3 ?_) fun j => congrArg x0 (funext fun a => Fin.ext ?_)
    · have e := k0_off1_eq i (y 3)
      rw [h3, Nat.lt_one_iff.mp x3_lt] at e ⊢
      exact e
    · have e := k0_off3_eq i (y 3)
      rw [h3, Nat.lt_one_iff.mp x3_lt] at e ⊢
      exact e
    · have e := k0_off2_eq i (y 3)
      rw [h3, Nat.lt_one_iff.mp x3_lt] at e ⊢
      exact e
    · have e := k0_off4_eq i (y 3)
      rw [h3, Nat.lt_one_iff.mp x3_lt] at e ⊢
      exact e
    · have j0 : (j 0).val < 1 := (j 0).isLt
      have j1 : (j 1).val < 1 := (j 1).isLt
      match a with
      | ⟨0, _⟩ => show 0 + 1 * (j 0).val = 0; omega
      | ⟨1, _⟩ => show _ + 1 * (j 1).val = (y 1).val; rw [h1, Nat.lt_one_iff.mp j1, Nat.lt_one_iff.mp x1_lt]; rfl
      | ⟨2, _⟩ => show 0 + 1 * (j 2).val = (j 2).val; omega
      | ⟨3, _⟩ => show 0 + 1 * (j 3).val = (j 3).val; omega

end Cert.KernelIdeal.Value

end
-- ==== Proof.Array.lean ====
/-
  What the kernel leaves in its result: the blocks of the grid points put together, then the transposition.
-/
module

public import proofs.«01_k».proof.Proof.Block
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Axis

/-- No index map of the kernel reads the table of boxes, so nothing is asked of it. -/
theorem ok {F : FTy → Type} [FloatOps F] (m : (ℓ : Loc nD τ sig) → Buf (Elt F) ℓ) : Ok m := by
  trivial

/-- Every box of the table lies inside the image along both axes. -/
def AllInside (f : IVec S32x16x4 32) : Prop :=
  ∀ (s : Fin 32) (g : Fin 16), Inside (f (ix3 s g 0)) (f (ix3 s g 2)) ∧ Inside (f (ix3 s g 1)) (f (ix3 s g 3))

/-- The array the grid leaves: image, channel, output row, box, output column. -/
def boxesByRow (x : FVec Ideal S32x3x299x299 .f32) (f : IVec S32x16x4 32) : FVec Ideal S32x3x299x16x299 .f32 := fun j =>
  resample (f (ix3 (j 0) (j 3) 0)) (f (ix3 (j 0) (j 3) 2)) (f (ix3 (j 0) (j 3) 1)) (f (ix3 (j 0) (j 3) 3))
    (fun k l => x (ix4 (j 0) (j 1) k l)) (j 2) (j 4)

variable (m : (ℓ : Loc nD τ sig) → Buf (Elt Ideal) ℓ)

/-- The coordinates of grid point `t`: its image and its half of the boxes. -/
theorem coords_val : ∀ t : Fin grid0.N, (grid0.coords t 0).val = t.val / 2 ∧ (grid0.coords t 1).val = t.val % 2 := by
  decide +kernel

/-- The input's block index: the point's image. -/
theorem map_in (i : grid0.Coords) : cc0_transform_0 i = ![(i 0).val, 0, 0, 0] := by
  have h0 : (i 0).val < 32 := (i 0).isLt
  unfold cc0_transform_0
  simp only [BitVec.toNat_ofNat, Nat.mod_eq_of_lt (show (i 0).val < 2 ^ 32 by omega), Nat.zero_mod]

/-- The output's block index: the point's image and its half of the boxes. -/
theorem map_out (i : grid0.Coords) : cc0_transform_1 i = ![(i 0).val, 0, 0, (i 1).val, 0] := by
  have h0 : (i 0).val < 32 := (i 0).isLt
  have h1 : (i 1).val < 2 := (i 1).isLt
  unfold cc0_transform_1
  simp only [BitVec.toNat_ofNat, Nat.mod_eq_of_lt (show (i 0).val < 2 ^ 32 by omega),
    Nat.mod_eq_of_lt (show (i 1).val < 2 ^ 32 by omega), Nat.zero_mod]

/-- The input window's block index at point `t`. -/
theorem index_in (hO : Ok m) (t : Fin (cfgM m hO).N) :
    ((cfgM m hO).win 0).index t = ![(grid0.coords t 0).val, 0, 0, 0] := map_in (grid0.coords t)

/-- The output window's block index at point `t`. -/
theorem index_out (hO : Ok m) (t : Fin (cfgM m hO).N) :
    ((cfgM m hO).win 1).index t = ![(grid0.coords t 0).val, 0, 0, (grid0.coords t 1).val, 0] := map_out (grid0.coords t)

/-- Index `y` of the output block of point `t` lies in the array at the point's image and in its half of the boxes. -/
theorem out_emb (hO : Ok m) (t : Fin (cfgM m hO).N) (y : S1x3x299x8x299.Idx) :
    (((cfgM m hO).win 1).blk t).view.emb y
      = (ix5 (grid0.coords t 0) (y 1) (y 2)
          (⟨8 * (grid0.coords t 1).val + (y 3).val, by
            have : (grid0.coords t 1).val < 2 := (grid0.coords t 1).isLt
            have : (y 3).val < 8 := (y 3).isLt
            omega⟩ : Fin 16) (y 4) : S32x3x299x16x299.Idx) := by
  funext a
  refine Fin.ext ((Pipeline.Window.rect_emb_val ((cfgM m hO).win 1) t y a).trans ?_)
  rw [index_out]
  have y0 : (y 0).val < 1 := (y 0).isLt
  match a with
  | ⟨0, _⟩ => show (grid0.coords t 0).val * 1 + (y 0).val = (grid0.coords t 0).val; omega
  | ⟨1, _⟩ => show 0 * 3 + (y 1).val = (y 1).val; omega
  | ⟨2, _⟩ => show 0 * 299 + (y 2).val = (y 2).val; omega
  | ⟨3, _⟩ => show (grid0.coords t 1).val * 8 + (y 3).val = 8 * (grid0.coords t 1).val + (y 3).val; omega
  | ⟨4, _⟩ => show 0 * 299 + (y 4).val = (y 4).val; omega

/-- The input block of point `t` is the point's image. -/
theorem in_apply (hO : Ok m) (c : Dev nD) (t : Fin (cfgM m hO).N) (j : S1x3x299x299.Idx) :
    iblk m hO c 0 t j = m ((c.tc : Thread nD τ).loc main_arg0) (ix4 (grid0.coords t 0) (j 1) (j 2) (j 3)) := by
  refine congrArg (m ((c.tc : Thread nD τ).loc main_arg0)) (funext fun a =>
    Fin.ext ((Pipeline.Window.rect_emb_val ((cfgM m hO).win 0) t j a).trans ?_))
  rw [index_in]
  have j0 : (j 0).val < 1 := (j 0).isLt
  match a with
  | ⟨0, _⟩ => show (grid0.coords t 0).val * 1 + (j 0).val = (grid0.coords t 0).val; omega
  | ⟨1, _⟩ => show 0 * 3 + (j 1).val = (j 1).val; omega
  | ⟨2, _⟩ => show 0 * 299 + (j 2).val = (j 2).val; omega
  | ⟨3, _⟩ => show 0 * 299 + (j 3).val = (j 3).val; omega

/-- The output's blocks cover its array: block `(s, 0, 0, h, 0)` is that of point `2 s + h`. -/
theorem covers (hO : Ok m) : ((cfgM m hO).win 1).Covers := by
  refine ⟨fun a => ?_, fun β => ?_⟩
  · match a with
    | ⟨0, _⟩ => exact Nat.one_pos
    | ⟨1, _⟩ => exact (by decide : 0 < 3)
    | ⟨2, _⟩ => exact (by decide : 0 < 299)
    | ⟨3, _⟩ => exact (by decide : 0 < 8)
    | ⟨4, _⟩ => exact (by decide : 0 < 299)
  · have b0 : (β (0 : Fin 5)).val < 32 := lt_of_lt_of_eq (β (0 : Fin 5)).isLt (show (32 + 1 - 1) / 1 = _ from rfl)
    have b1 : (β (1 : Fin 5)).val < 1 := lt_of_lt_of_eq (β (1 : Fin 5)).isLt (show (3 + 3 - 1) / 3 = _ from rfl)
    have b2 : (β (2 : Fin 5)).val < 1 := lt_of_lt_of_eq (β (2 : Fin 5)).isLt (show (299 + 299 - 1) / 299 = _ from rfl)
    have b3 : (β (3 : Fin 5)).val < 2 := lt_of_lt_of_eq (β (3 : Fin 5)).isLt (show (16 + 8 - 1) / 8 = _ from rfl)
    have b4 : (β (4 : Fin 5)).val < 1 := lt_of_lt_of_eq (β (4 : Fin 5)).isLt (show (299 + 299 - 1) / 299 = _ from rfl)
    let t : Fin grid0.N := ⟨2 * (β (0 : Fin 5)).val + (β (3 : Fin 5)).val, by rw [N_0]; omega⟩
    obtain ⟨c0, c1⟩ := coords_val t
    refine ⟨t, flush0_1 _ t, fun a => ⟨?_, .inl rfl⟩⟩
    rw [index_out]
    match a with
    | ⟨0, _⟩ => show (grid0.coords t 0).val = (β (0 : Fin 5)).val; rw [c0]; show (2 * (β (0 : Fin 5)).val + (β (3 : Fin 5)).val) / 2 = _; omega
    | ⟨1, _⟩ => show 0 = (β (1 : Fin 5)).val; omega
    | ⟨2, _⟩ => show 0 = (β (2 : Fin 5)).val; omega
    | ⟨3, _⟩ => show (grid0.coords t 1).val = (β (3 : Fin 5)).val; rw [c1]; show (2 * (β (0 : Fin 5)).val + (β (3 : Fin 5)).val) % 2 = _; omega
    | ⟨4, _⟩ => show 0 = (β (4 : Fin 5)).val; omega

/-- What a grid point leaves in its output block, from the arguments. -/
theorem point_apply (hO : Ok m) (c : Dev nD) (hin : AllInside (tbl m 0)) (t : Fin (cfgM m hO).N) (y : S1x3x299x8x299.Idx) :
    outsAt0 m hO c t y = boxesByRow (m ((c.tc : Thread nD τ).loc main_arg0)) (tbl m 0)
      (ix5 (grid0.coords t 0) (y 1) (y 2)
          (⟨8 * (grid0.coords t 1).val + (y 3).val, by
            have : (grid0.coords t 1).val < 2 := (grid0.coords t 1).isLt
            have : (y 3).val < 8 := (y 3).isLt
            omega⟩ : Fin 16) (y 4)) := by
  refine (block_apply c (grid0.coords t) _ _ _ _ _ _ y).trans ?_
  obtain ⟨h0, h1⟩ := hin (grid0.coords t 0) ⟨8 * (grid0.coords t 1).val + (y 3).val, by
    have : (grid0.coords t 1).val < 2 := (grid0.coords t 1).isLt
    have : (y 3).val < 8 := (y 3).isLt
    omega⟩
  refine (tile_apply h0 h1 _ _ _).trans ?_
  refine congrArg (fun X => resample _ _ _ _ X _ _) (funext fun k => funext fun l => ?_)
  exact in_apply m hO c t _

/-- The array the grid leaves, whole. -/
theorem grid_array (hO : Ok m) (c : Dev nD) (hin : AllInside (tbl m 0)) :
    (dats m hO 0 c).arrAt 1 (cfgM m hO).N = boxesByRow (m ((c.tc : Thread nD τ).loc main_arg0)) (tbl m 0) := by
  refine (dats m hO 0 c).arrAt_eq_of_covers 1 _ (covers m hO) fun t hf y => ?_
  blk_simp
  refine (congrFun (after0_1 m hO c t) y).trans ((point_apply m hO c hin t y).trans ?_)
  exact congrArg _ (out_emb m hO t y).symm

/-- The result of the whole program: image, box, channel, output row, output column. -/
def boxes (x : FVec Ideal S32x3x299x299 .f32) (f : IVec S32x16x4 32) : FVec Ideal S32x16x3x299x299 .f32 := fun j =>
  resample (f (ix3 (j 0) (j 1) 0)) (f (ix3 (j 0) (j 1) 2)) (f (ix3 (j 0) (j 1) 1)) (f (ix3 (j 0) (j 1) 3))
    (fun k l => x (ix4 (j 0) (j 2) k l)) (j 3) (j 4)

/-- The host's transposition of what the grid left is the result. -/
theorem tail_apply (W : Valuation τ sig (Elt Ideal)) :
    StableHlo.after [hostOps1 (F := Ideal)].flatten W (Proc.devRef .tc main_v1)
      = transpose S32x16x3x299x299 [0, 3, 1, 2, 4] (W (Proc.devRef .tc main_v0) : FVec Ideal S32x3x299x16x299 .f32)
          transposes_S32x3x299x16x299_S32x16x3x299x299_0_3_1_2_4 := by
  show StableHlo.after (hostOps1 (F := Ideal)) W (Proc.devRef .tc main_v1) = _
  after_results

/-- Transposed, what the grid left is `boxes`. -/
theorem transpose_boxes (x : FVec Ideal S32x3x299x299 .f32) (f : IVec S32x16x4 32) :
    transpose S32x16x3x299x299 [0, 3, 1, 2, 4] (boxesByRow x f) transposes_S32x3x299x16x299_S32x16x3x299x299_0_3_1_2_4
      = boxes x f := by
  funext j
  idx_vars j
  pointwise [boxesByRow, boxes]

/-- The idealized kernel's run ends with the interpolation of every box. -/
theorem run (g : Dev nD → PrngReg) (hin : AllInside (tbl m 0)) :
    θ_run defs (onTc (τ := τ) (main (F := Ideal))) ⟨m, fun _ => 0, g⟩ (fun r => ∀ c : Dev nD,
      r.2.mem ((c.tc : Thread nD τ).loc main_v1) = boxes (m ((c.tc : Thread nD τ).loc main_arg0)) (m ((c.tc : Thread nD τ).loc main_arg1))) := by
  refine (θ_run defs _ _).mono (fun r h c => ?_) (run_main m g (ok m))
  refine ((h c).2 main_v1 (Pipeline.mem_restRefs_of _ rfl fun w => ?_)).trans ?_
  · match w with
    | ⟨0, _⟩ => show main_arg0 ≠ main_v1; decide
    | ⟨1, _⟩ => show main_v0 ≠ main_v1; decide
  · unfold Pipeline.afterTail
    refine (tail_apply _).trans (Eq.trans ?_ (transpose_boxes _ _))
    refine congrArg (fun X => transpose S32x16x3x299x299 [0, 3, 1, 2, 4] X transposes_S32x3x299x16x299_S32x16x3x299x299_0_3_1_2_4) ?_
    refine Eq.trans (Pipeline.withArrays_arr (Pipeline.pin pcfgs (fun _ => adm m (ok m)) 0).spec ?_ c (V0 m c)
      (fun w => (dats m (ok m) 0 c).arrAt w (cfgM m (ok m)).N) 1) ((grid_array m (ok m) c hin).trans ?_)
    · intro w w' e
      have ne : main_arg0 ≠ main_v0 := by decide
      match w, w' with
      | ⟨0, _⟩, ⟨0, _⟩ => rfl
      | ⟨0, _⟩, ⟨1, _⟩ => exact absurd e ne
      | ⟨1, _⟩, ⟨0, _⟩ => exact absurd e.symm ne
      | ⟨1, _⟩, ⟨1, _⟩ => rfl
    · obtain rfl : c = 0 := Subsingleton.elim (α := Fin 1) _ _
      exact congrArg _ (V_main_arg1 m 0)

end Cert.KernelIdeal.Value

end
-- ==== Proof.Ref.lean ====
/-
  The reference read at one element: the four cells that each output pixel gathers, and their weights.
-/
module

public import proofs.«01_k».proof.Proof.Axis
public import proofs.«01_k».proof.Proof.Gen.ReferenceIdeal.Read
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.Axis

/-- The gather's dimension numbers: image and box from the result's place, the start a pair (row, column), all channels. -/
abbrev dims := gather_S32x3x299x299_S32x16x299x299x2_S32x16x3x299x299_2_23_0_0_23_4_1311

/-- The start indices that a result element reads: its image, box, row and column, and a component of the pair. -/
theorem start_place (s : Fin 32) (g : Fin 16) (ch : Fin 3) (i j : Fin 299) (q : Fin 2) :
    GatherDims.siIdx dims (ix5 s g ch i j) q = (ix5 s g i j q : S32x16x299x299x2.Idx) := by
  funext b
  refine Fin.ext ?_
  match b with
  | ⟨0, _⟩ => rfl
  | ⟨1, _⟩ => rfl
  | ⟨2, _⟩ => rfl
  | ⟨3, _⟩ => rfl
  | ⟨4, _⟩ => rfl

/-- The gather at an element: the image's cell in the row and the column that the pair of words names. -/
theorem gather_apply (x : FVec Ideal S32x3x299x299 .f32) (idx : IVec S32x16x299x299x2 32)
    (s : Fin 32) (g : Fin 16) (ch : Fin 3) (i j : Fin 299) :
    Host.gather dims x idx (ix5 s g ch i j)
      = x (ix4 s ch (cell (idx (ix5 s g i j 0)).toInt) (cell (idx (ix5 s g i j 1)).toInt)) := by
  unfold Host.gather
  refine congrArg x (funext fun a => Fin.ext ?_)
  have e0 := start_place s g ch i j 0
  have e1 := start_place s g ch i j 1
  match a with
  | ⟨0, _⟩ =>
    show GatherDims.start dims _ idx 0 + GatherDims.batchCoord dims _ 0 + GatherDims.offCoord dims _ 0 = s.val
    rw [GatherDims.start_batching dims _ _ _ (List.mem_singleton.mpr rfl), GatherDims.offCoord_eq_zero dims _ _ (by decide)]
    exact (Nat.add_zero _).trans (Nat.zero_add _)
  | ⟨1, _⟩ =>
    show GatherDims.start dims _ idx 1 + GatherDims.batchCoord dims _ 1 + GatherDims.offCoord dims _ 1 = ch.val
    rw [GatherDims.batchCoord_eq_zero dims _ _ (by decide)]
    unfold GatherDims.start
    rw [dif_neg (by decide)]
    exact Nat.zero_add _
  | ⟨2, _⟩ =>
    show GatherDims.start dims _ idx 2 + GatherDims.batchCoord dims _ 2 + GatherDims.offCoord dims _ 2 = _
    rw [GatherDims.batchCoord_eq_zero dims _ _ (by decide), GatherDims.offCoord_eq_zero dims _ _ (by decide)]
    unfold GatherDims.start
    rw [dif_pos (by decide)]
    exact congrArg (fun w => min (idx w).toInt.toNat 298) e0
  | ⟨3, _⟩ =>
    show GatherDims.start dims _ idx 3 + GatherDims.batchCoord dims _ 3 + GatherDims.offCoord dims _ 3 = _
    rw [GatherDims.batchCoord_eq_zero dims _ _ (by decide), GatherDims.offCoord_eq_zero dims _ _ (by decide)]
    unfold GatherDims.start
    rw [dif_pos (by decide)]
    exact congrArg (fun w => min (idx w).toInt.toNat 298) e1

/-- A word that is not negative is not wrapped round: it names its own cell. -/
theorem wrap_apply (w : BitVec 32) (n : ℤ) (hw : w.toInt = n) (hn : 0 ≤ n) :
    cell (Scalar.select (IntOp.cmpi .slt w 0#32) (IntOp.addi w 299#32) w).toInt = cell n := by
  rw [WordCmp.cmpi_slt_eq, decide_eq_false (not_lt.mpr (hw.symm ▸ hn))]
  exact congrArg cell hw

/-- The next cell in words: one further, but not beyond the box's last. -/
theorem next_word {a b : BitVec 32} (h : Inside a b) (i : ℕ) (w : BitVec 32) (hw : w.toInt = near i a b) :
    (IntOp.minsi (IntOp.addi w 1#32) (IntOp.subi b 1#32)).toInt = next i a b := by
  obtain ⟨n0, n1⟩ := near_bounds h i
  obtain ⟨-, b1, b2⟩ := h
  have one : (1#32 : BitVec 32).toInt = 1 := by decide
  have eu : (IntOp.addi w 1#32).toInt = near i a b + 1 := by
    show (w + 1#32).toInt = _
    rw [BitVec.toInt_add, hw, one]
    exact Int.bmod_eq_of_le (by omega) (by omega)
  have ev : (IntOp.subi b 1#32).toInt = b.toInt - 1 := by
    show (b - 1#32).toInt = _
    rw [BitVec.toInt_sub, one]
    exact Int.bmod_eq_of_le (by omega) (by omega)
  unfold IntOp.minsi next
  simp only [BitVec.slt_iff_toInt_lt]
  rw [apply_ite BitVec.toInt, eu, ev]
  split <;> omega

/-- The fraction of a position beyond its cell. -/
theorem part_float (i : ℕ) (a b : BitVec 32) :
    ((pos i a b : ℝ) : EReal) - Ideal.liftRound Int.floor ((pos i a b : ℝ) : EReal) = ((part i a b : ℝ) : EReal) := by
  show ((pos i a b : ℝ) : EReal) - ((⌊pos i a b⌋ : ℝ) : EReal) = _
  rw [← EReal.coe_sub]
  rfl

/-- The lower bound of the clip is zero. -/
theorem floor_zero : (id (constant (F := Ideal) S_ .f32 0x00000000#32) : FVec Ideal S_ .f32) ix0 = 0 := by
  simp only [id]
  pointwise []

variable (x : FVec Ideal S32x3x299x299 .f32) (f : IVec S32x16x4 32) (s : Fin 32) (g : Fin 16) (i j : Fin 299) (ch : Fin 3)

/-! ## The rows -/

/-- The position of output row `i` in the image. -/
theorem row_pos (h : Inside (f (ix3 s g 0)) (f (ix3 s g 2))) :
    val_main_v31 (F := Ideal) f (ix3 s g i) = ((pos i.val (f (ix3 s g 0)) (f (ix3 s g 2)) : ℝ) : EReal) := by
  pointwise [val_main_v31, val_main_v27, val_main_v30, val_main_v29, val_main_v28, val_main_call0_v4, val_main_call0_v3,
    val_main_call0_v2, val_main_call0_v1, val_main_call0_v0, val_main_cst_3, val_main_v26, val_main_v25, val_main_cst_2,
    val_main_v24, val_main_v23, val_main_cst_1, val_main_v22, val_main_v21, val_main_cst_0, val_main_v20, val_main_v19,
    val_main_v18, val_main_v17, val_main_v16, val_main_v15, val_main_v14, val_main_v13, val_main_cst, val_main_v12,
    val_main_v9, val_main_v8, val_main_v5, val_main_v4, val_main_v1, val_main_v0]
  rw [floor_zero]
  exact pos_reference h i

/-- The row at or below it. -/
theorem row_near (h : Inside (f (ix3 s g 0)) (f (ix3 s g 2))) :
    (val_main_v55 (F := Ideal) f (ix3 s g i)).toInt = near i.val (f (ix3 s g 0)) (f (ix3 s g 2)) := by
  pointwise [val_main_v55, val_main_v51]
  rw [row_pos f s g i h]
  exact near_word h i

/-- The row after that one, but not beyond the box. -/
theorem row_next (h : Inside (f (ix3 s g 0)) (f (ix3 s g 2))) :
    (val_main_v63 (F := Ideal) f (ix3 s g i)).toInt = next i.val (f (ix3 s g 0)) (f (ix3 s g 2)) := by
  refine Eq.trans ?_ (next_word h i.val _ (row_near f s g i h))
  pointwise [val_main_v63, val_main_v58, val_main_v57, val_main_c, val_main_v62, val_main_v61, val_main_v60, val_main_v59,
    val_main_c_9, val_main_v5, val_main_v4]

/-- The weight of the row after. -/
theorem row_part (h : Inside (f (ix3 s g 0)) (f (ix3 s g 2))) :
    val_main_v53 (F := Ideal) f (ix3 s g i) = ((part i.val (f (ix3 s g 0)) (f (ix3 s g 2)) : ℝ) : EReal) := by
  pointwise [val_main_v53, val_main_v51]
  rw [row_pos f s g i h]
  exact part_float _ _ _

/-! ## The columns -/

/-- The position of output column `j` in the image. -/
theorem col_pos (h : Inside (f (ix3 s g 1)) (f (ix3 s g 3))) :
    val_main_v50 (F := Ideal) f (ix3 s g j) = ((pos j.val (f (ix3 s g 1)) (f (ix3 s g 3)) : ℝ) : EReal) := by
  pointwise [val_main_v50, val_main_v46, val_main_v49, val_main_v48, val_main_v47, val_main_call1_v4, val_main_call1_v3,
    val_main_call1_v2, val_main_call1_v1, val_main_call1_v0, val_main_cst_8, val_main_v45, val_main_v44, val_main_cst_7,
    val_main_v43, val_main_v42, val_main_cst_6, val_main_v41, val_main_v40, val_main_cst_5, val_main_v39, val_main_v38,
    val_main_v37, val_main_v36, val_main_v35, val_main_v34, val_main_v33, val_main_v32, val_main_cst_4, val_main_v12,
    val_main_v11, val_main_v10, val_main_v7, val_main_v6, val_main_v3, val_main_v2]
  rw [floor_zero]
  exact pos_reference h j

/-- The column at or below it. -/
theorem col_near (h : Inside (f (ix3 s g 1)) (f (ix3 s g 3))) :
    (val_main_v56 (F := Ideal) f (ix3 s g j)).toInt = near j.val (f (ix3 s g 1)) (f (ix3 s g 3)) := by
  pointwise [val_main_v56, val_main_v52]
  rw [col_pos f s g j h]
  exact near_word h j

/-- The column after that one, but not beyond the box. -/
theorem col_next (h : Inside (f (ix3 s g 1)) (f (ix3 s g 3))) :
    (val_main_v70 (F := Ideal) f (ix3 s g j)).toInt = next j.val (f (ix3 s g 1)) (f (ix3 s g 3)) := by
  refine Eq.trans ?_ (next_word h j.val _ (col_near f s g j h))
  pointwise [val_main_v70, val_main_v65, val_main_v64, val_main_c_10, val_main_v69, val_main_v68, val_main_v67, val_main_v66,
    val_main_c_11, val_main_v7, val_main_v6]

/-- The weight of the column after. -/
theorem col_part (h : Inside (f (ix3 s g 1)) (f (ix3 s g 3))) :
    val_main_v54 (F := Ideal) f (ix3 s g j) = ((part j.val (f (ix3 s g 1)) (f (ix3 s g 3)) : ℝ) : EReal) := by
  pointwise [val_main_v54, val_main_v52]
  rw [col_pos f s g j h]
  exact part_float _ _ _

/-! ## The four gathered cells and the result -/

variable (h0 : Inside (f (ix3 s g 0)) (f (ix3 s g 2))) (h1 : Inside (f (ix3 s g 1)) (f (ix3 s g 3)))
include h0 h1

/-- The cell of the near row and the near column. -/
theorem near_near : val_main_v88 (F := Ideal) x f (ix5 s g ch i j)
    = x (ix4 s ch (cell (near i.val (f (ix3 s g 0)) (f (ix3 s g 2)))) (cell (near j.val (f (ix3 s g 1)) (f (ix3 s g 3))))) := by
  refine (gather_apply x (val_main_v87 (F := Ideal) f) s g ch i j).trans ?_
  pointwise [val_main_v87, val_main_v86, val_main_v85, val_main_v84, val_main_v83, val_main_v82, val_main_v81, val_main_v80,
    val_main_c_15, val_main_v79, val_main_v78, val_main_c_14, val_main_v77, val_main_v76, val_main_v75, val_main_c_13,
    val_main_v74, val_main_v73, val_main_c_12, val_main_v72, val_main_v71]
  exact congrArg₂ (fun r c => x (ix4 s ch r c)) (wrap_apply _ _ (row_near f s g i h0) (near_bounds h0 i).1)
    (wrap_apply _ _ (col_near f s g j h1) (near_bounds h1 j).1)

/-- The cell of the near row and the next column. -/
theorem near_next : val_main_v111 (F := Ideal) x f (ix5 s g ch i j)
    = x (ix4 s ch (cell (near i.val (f (ix3 s g 0)) (f (ix3 s g 2)))) (cell (next j.val (f (ix3 s g 1)) (f (ix3 s g 3))))) := by
  refine (gather_apply x (val_main_v110 (F := Ideal) f) s g ch i j).trans ?_
  pointwise [val_main_v110, val_main_v109, val_main_v108, val_main_v107, val_main_v106, val_main_v105, val_main_v104,
    val_main_v103, val_main_c_20, val_main_v102, val_main_v101, val_main_c_19, val_main_v100, val_main_v99, val_main_v98,
    val_main_c_18, val_main_v97, val_main_v96, val_main_c_17, val_main_v95, val_main_v94]
  exact congrArg₂ (fun r c => x (ix4 s ch r c)) (wrap_apply _ _ (row_near f s g i h0) (near_bounds h0 i).1)
    (wrap_apply _ _ (col_next f s g j h1) (next_bounds h1 j).1)

/-- The cell of the next row and the near column. -/
theorem next_near : val_main_v133 (F := Ideal) x f (ix5 s g ch i j)
    = x (ix4 s ch (cell (next i.val (f (ix3 s g 0)) (f (ix3 s g 2)))) (cell (near j.val (f (ix3 s g 1)) (f (ix3 s g 3))))) := by
  refine (gather_apply x (val_main_v132 (F := Ideal) f) s g ch i j).trans ?_
  pointwise [val_main_v132, val_main_v131, val_main_v130, val_main_v129, val_main_v128, val_main_v127, val_main_v126,
    val_main_v125, val_main_c_24, val_main_v124, val_main_v123, val_main_c_23, val_main_v122, val_main_v121, val_main_v120,
    val_main_c_22, val_main_v119, val_main_v118, val_main_c_21, val_main_v117, val_main_v116]
  exact congrArg₂ (fun r c => x (ix4 s ch r c)) (wrap_apply _ _ (row_next f s g i h0) (next_bounds h0 i).1)
    (wrap_apply _ _ (col_near f s g j h1) (near_bounds h1 j).1)

/-- The cell of the next row and the next column. -/
theorem next_next : val_main_v156 (F := Ideal) x f (ix5 s g ch i j)
    = x (ix4 s ch (cell (next i.val (f (ix3 s g 0)) (f (ix3 s g 2)))) (cell (next j.val (f (ix3 s g 1)) (f (ix3 s g 3))))) := by
  refine (gather_apply x (val_main_v155 (F := Ideal) f) s g ch i j).trans ?_
  pointwise [val_main_v155, val_main_v154, val_main_v153, val_main_v152, val_main_v151, val_main_v150, val_main_v149,
    val_main_v148, val_main_c_29, val_main_v147, val_main_v146, val_main_c_28, val_main_v145, val_main_v144, val_main_v143,
    val_main_c_27, val_main_v142, val_main_v141, val_main_c_26, val_main_v140, val_main_v139]
  exact congrArg₂ (fun r c => x (ix4 s ch r c)) (wrap_apply _ _ (row_next f s g i h0) (next_bounds h0 i).1)
    (wrap_apply _ _ (col_next f s g j h1) (next_bounds h1 j).1)

/-- The reference at an element: along the columns in two rows, then between the rows. -/
theorem result_apply : val_main_v169 (F := Ideal) x f (ix5 s g ch i j)
    = resample (f (ix3 s g 0)) (f (ix3 s g 2)) (f (ix3 s g 1)) (f (ix3 s g 3)) (fun k l => x (ix4 s ch k l)) i j := by
  pointwise [val_main_v169, val_main_v168, val_main_v167, val_main_v166, val_main_v165, val_main_v164, val_main_v163,
    val_main_v162, val_main_v161, val_main_cst_30, val_main_v160, val_main_v159, val_main_v158, val_main_v157, val_main_v138,
    val_main_v137, val_main_v136, val_main_v135, val_main_v134, val_main_cst_25, val_main_v115, val_main_v114, val_main_v113,
    val_main_v112, val_main_v93, val_main_v92, val_main_v91, val_main_v90, val_main_v89, val_main_cst_16]
  rw [near_near x f s g i j ch h0 h1, near_next x f s g i j ch h0 h1, next_near x f s g i j ch h0 h1,
    next_next x f s g i j ch h0 h1, row_part f s g i h0, col_part f s g j h1]
  unfold resample lerp
  have e (r : ℝ) : (1 : EReal) - (r : EReal) = ((1 - r : ℝ) : EReal) := by rw [EReal.coe_sub]; rfl
  simp only [e]

end Cert.ReferenceIdeal.Read

end
-- ==== Proof.Pre.lean ====
/-
  The precondition `boxes` read at one box: along each axis the start is not negative and the end is in `1 … 299`.
-/
module

public import proofs.«01_k».proof.Defs
public import proofs.«01_k».proof.Proof.Array
public import Idealize.ShloMosaic.Lib.Pointwise

@[expose] public section

noncomputable section

open Idealize.ShloMosaic

namespace Cert.Pre_boxes

/-- The shape relations the predicate's operations take. -/
theorem facts : Facts where
  slices_S32x16x4_S32x16x1_0_0_0 := by decide
  shapeCasts_S32x16x1_S32x16 := by decide
  slices_S32x16x4_S32x16x1_0_0_1 := by decide
  slices_S32x16x4_S32x16x1_0_0_2 := by decide
  slices_S32x16x4_S32x16x1_0_0_3 := by decide
  bcast_S_S32x16 := by decide

/-- A conjunction of two truth words is true only where both are. -/
theorem and_true : ∀ u v : BitVec 1, IntOp.andi u v = 1#1 → u = 1#1 ∧ v = 1#1 := by decide

/-- A signed `≥` that is true orders the words' values. -/
theorem ge_true (u v : BitVec 32) (h : IntOp.cmpi .sge u v = 1#1) : v.toInt ≤ u.toInt := by
  rw [WordCmp.cmpi_sge_eq] at h
  by_contra hn
  rw [decide_eq_false hn] at h
  exact absurd h (by decide)

/-- A signed `≤` that is true orders the words' values. -/
theorem le_true (u v : BitVec 32) (h : IntOp.cmpi .sle u v = 1#1) : u.toInt ≤ v.toInt := by
  rw [WordCmp.cmpi_sle_eq] at h
  by_contra hn
  rw [decide_eq_false hn] at h
  exact absurd h (by decide)

/-- One axis of one box. -/
theorem inside_of_words (a b : BitVec 32)
    (h : IntOp.andi (IntOp.andi (IntOp.cmpi .sge a 0#32) (IntOp.cmpi .sge b 1#32)) (IntOp.cmpi .sle b 299#32) = 1#1) :
    Cert.Axis.Inside a b := by
  obtain ⟨h01, h2⟩ := and_true _ _ h
  obtain ⟨h0, h1⟩ := and_true _ _ h01
  exact ⟨ge_true _ _ h0, ge_true _ _ h1, le_true _ _ h2⟩

/-- Where the predicate holds at every box, every box lies inside the image. -/
theorem inside_of_boxes [Facts] (x : FVec Ideal S32x3x299x299 .f32) (f : IVec S32x16x4 32)
    (h : fn (F := Ideal) x f = fun _ => 1#1) : Cert.KernelIdeal.Value.AllInside f := by
  intro s g
  have hb := congrFun h (ix2 s g)
  revert hb
  pointwise [fn, fn_part1]
  intro hb
  obtain ⟨h0, h1⟩ := and_true _ _ hb
  exact ⟨inside_of_words _ _ h0, inside_of_words _ _ h1⟩

end Cert.Pre_boxes

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Ref
public import proofs.«01_k».proof.Proof.Pre
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs and leaves its arguments as they were; it has no counters that could differ from zero. -/
theorem reference_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
          ∧ r.2.mem ((c.tc : Thread ReferenceIdeal.nD ReferenceIdeal.τ).loc ReferenceIdeal.main_arg1)
            = m ((c.tc : Thread ReferenceIdeal.nD ReferenceIdeal.τ).loc ReferenceIdeal.main_arg1))
        ∧ r.2.sem = fun _ => 0) :=
  θ_run_mono (ReferenceIdeal.Value.run m g) fun r h => ⟨fun c => (h c).2, sem_eq_zero_of_no_sems rfl r.2⟩

/-- The reference's result, whole, is the interpolation of every box. -/
theorem reference_boxes (x : FVec Ideal KernelIdeal.S32x3x299x299 .f32) (f : IVec KernelIdeal.S32x16x4 32)
    (hin : KernelIdeal.Value.AllInside f) :
    ReferenceIdeal.Read.val_main_v169 (F := Ideal) x f = KernelIdeal.Value.boxes x f := by
  funext j
  idx_vars j
  exact ReferenceIdeal.Read.result_apply x f _ _ _ _ _ (hin _ _).1 (hin _ _).2

/-- Under the precondition the kernel and the reference end with the same interpolated boxes. -/
theorem algebraic : Cert.algebraic_KernelIdeal_ReferenceIdeal_pre_boxes (hKernelIdeal := Cert.KernelIdeal.Gen.facts)
    (hReferenceIdeal := Cert.ReferenceIdeal.Gen.facts) (hPre_boxes := Cert.Pre_boxes.facts) := by
  intro m g m' g' hpre hagree
  have hin (c : Dev KernelIdeal.nD) := @Pre_boxes.inside_of_boxes Pre_boxes.facts _ _ (hpre c)
  refine ⟨fun c => KernelIdeal.Value.boxes (m ((c.tc : Thread KernelIdeal.nD KernelIdeal.τ).loc KernelIdeal.main_arg0))
    (m ((c.tc : Thread KernelIdeal.nD KernelIdeal.τ).loc KernelIdeal.main_arg1)), ?_, ?_⟩
  · exact θ_run_mono (θ_run_and (KernelIdeal.Value.run m g ((congrArg KernelIdeal.Value.AllInside (KernelIdeal.Gen.V_main_arg1 m 0)).mpr (hin 0)))
      (KernelIdeal.Gen.unchanged m g trivial)) fun r h c => ⟨h.1 c, h.2 c⟩
  · refine θ_run_mono (ReferenceIdeal.Value.run m' g') fun r h c => ⟨(h c).1.trans ?_, (h c).2⟩
    refine (ReferenceIdeal.Read.val_main_v169_eq _).trans ?_
    refine (congrArg₂ (ReferenceIdeal.Read.val_main_v169 (F := Ideal)) (hagree c).1 (hagree c).2).trans ?_
    exact reference_boxes _ _ (hin c)

/-- The certificate: the frames, the idealization's preservation and the kernel's value. -/
theorem claim : Cert.Claim :=
  ⟨Cert.Kernel.Gen.facts, Cert.KernelIdeal.Gen.facts, Cert.ReferenceIdeal.Gen.facts, Cert.Pre_boxes.facts,
    fun m g _ => Cert.Kernel.Gen.frame m g trivial,
    fun m g _ => Cert.KernelIdeal.Gen.frame m g trivial,
    fun m g _ => Cert.KernelIdeal.Gen.frame m g trivial,
    fun m g _ => reference_frame m g,
    fun m g _ => reference_frame m g,
    trivial,
    algebraic⟩

end Cert.Proof

end
